-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x5120 : Shape := ⟨3, ![8, 1, 5120]⟩
abbrev S5120x6912 : Shape := ⟨2, ![5120, 6912]⟩
abbrev S6912 : Shape := ⟨1, ![6912]⟩
abbrev S8x5120 : Shape := ⟨2, ![8, 5120]⟩
abbrev S1x6912 : Shape := ⟨2, ![1, 6912]⟩
abbrev S8x6912 : Shape := ⟨2, ![8, 6912]⟩
abbrev S8x1 : Shape := ⟨2, ![8, 1]⟩
abbrev S256x6912 : Shape := ⟨2, ![256, 6912]⟩
abbrev S8 : Shape := ⟨1, ![8]⟩
abbrev S1x256 : Shape := ⟨2, ![1, 256]⟩
abbrev S8x256 : Shape := ⟨2, ![8, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x1x5120, .bf16⟩
  | .hbm, ⟨1, _⟩ => ⟨S5120x6912, .fp8e4m3⟩
  | .hbm, ⟨2, _⟩ => ⟨S6912, .f32⟩
  | .hbm, ⟨3, _⟩ => ⟨S8x5120, .bf16⟩
  | .hbm, ⟨4, _⟩ => ⟨S1x6912, .f32⟩
  | .hbm, ⟨5, _⟩ => ⟨S8x6912, .bf16⟩
  | .hbm, ⟨6, _⟩ => ⟨S8x5120, .fp8e4m3⟩
  | .hbm, ⟨7, _⟩ => ⟨S8x1, .f32⟩
  | .local _ .vmem, ⟨0, _⟩ => ⟨S8x5120, .bf16⟩
  | .local _ .vmem, ⟨1, _⟩ => ⟨S256x6912, .fp8e4m3⟩
  | .local _ .vmem, ⟨2, _⟩ => ⟨S256x6912, .fp8e4m3⟩
  | .local _ .vmem, ⟨3, _⟩ => ⟨S1x6912, .f32⟩
  | .local _ .vmem, ⟨4, _⟩ => ⟨S8x6912, .bf16⟩
  | .local _ .vmem, ⟨5, _⟩ => ⟨S8x5120, .fp8e4m3⟩
  | .local _ .vmem, ⟨6, _⟩ => ⟨S8x1, .f32⟩
  | .local _ .vmem, ⟨7, _⟩ => ⟨S8x6912, .f32⟩
  | _, _ => ⟨S8x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨1, ![20], ![false]⟩

def k0_mult1 (i : grid0.Coords) : BitVec 32 :=
  let arg0 : BitVec 32 := BitVec.ofNat 32 (i 0).val
  let c256_i32 : BitVec 32 := 256#32
  let v3 : BitVec 32 := Scalar.muli arg0 c256_i32
  v3
def k0_off1 (i : grid0.Coords) : Fin 2 → Nat :=
  let c0 : Index := 0#32
  let arg0 : BitVec 32 := BitVec.ofNat 32 (i 0).val
  let c256_i32 : BitVec 32 := 256#32
  let v3 : BitVec 32 := Scalar.muli arg0 c256_i32
  let v4 : BitVec 32 := v3
  let v5 : Index := Scalar.indexCast v4
  ![0, v5.toNat]
def k0_cond2 (i : grid0.Coords) : BitVec 1 :=
  let arg0 : BitVec 32 := BitVec.ofNat 32 (i 0).val
  let c19_i32 : BitVec 32 := 19#32
  let v15 : BitVec 1 := Scalar.cmpi .eq arg0 c19_i32
  let v16 : BitVec 32 := Scalar.extui v15
  let c0_i32_7 : BitVec 32 := 0#32
  let v17 : BitVec 1 := Scalar.cmpi .ne v16 c0_i32_7
  v17

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x6912 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x6912 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x6912 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S8x1x5120 : Shape := ⟨3, ![8, 1, 5120]⟩
abbrev S5120x6912 : Shape := ⟨2, ![5120, 6912]⟩
abbrev S6912 : Shape := ⟨1, ![6912]⟩
abbrev S8x5120 : Shape := ⟨2, ![8, 5120]⟩
abbrev S1x6912 : Shape := ⟨2, ![1, 6912]⟩
abbrev S8x6912 : Shape := ⟨2, ![8, 6912]⟩
abbrev S8x1 : Shape := ⟨2, ![8, 1]⟩
abbrev S8 : Shape := ⟨1, ![8]⟩

abbrev nBuf : Space → Nat
  | .hbm => 8
  | .vmem => 6
  | .smem => 0
  | _ => 0

abbrev bufTy : (tb : Table) → Fin (tcTables nBuf tb) → BufTy
  | .hbm, ⟨0, _⟩ => ⟨S8x1x5120, .bf16⟩
  | .hbm, ⟨1, _⟩ => ⟨S5120x6912, .fp8e4m3⟩
  | .hbm, ⟨2, _⟩ => ⟨S6912, .f32⟩
  | .hbm, ⟨3, _⟩ => ⟨S8x5120, .bf16⟩
  | .hbm, ⟨4, _⟩ => ⟨S1x6912, .f32⟩
  | .hbm, ⟨5, _⟩ => ⟨S8x6912, .bf16⟩
  | .hbm, ⟨6, _⟩ => ⟨S8x5120, .fp8e4m3⟩
  | .hbm, ⟨7, _⟩ => ⟨S8x1, .f32⟩
  | .local _ .vmem, ⟨0, _⟩ => ⟨S8x5120, .bf16⟩
  | .local _ .vmem, ⟨1, _⟩ => ⟨S5120x6912, .fp8e4m3⟩
  | .local _ .vmem, ⟨2, _⟩ => ⟨S1x6912, .f32⟩
  | .local _ .vmem, ⟨3, _⟩ => ⟨S8x6912, .bf16⟩
  | .local _ .vmem, ⟨4, _⟩ => ⟨S8x5120, .fp8e4m3⟩
  | .local _ .vmem, ⟨5, _⟩ => ⟨S8x1, .f32⟩
  | _, _ => ⟨S8x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x6912 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6912 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x6912 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelIdealRuns.lean ====
/- The body of the kernel run once, in each of its three cases: at the first point of the grid, where it quantises the
   activations and clears the accumulator; at a point in between, where it only accumulates; and at the last point, where
   it also stores the result. Each run is stated on whole staging buffers, with what the body leaves in them as plain
   functions of what it found. -/
module

public import proofs.«01_k».proof.Proof.Gen.KernelIdeal.Frame
public import proofs.«01_k».proof.Proof.Gen.KernelIdeal.Skeleton
public import Idealize.ShloMosaic.Lib.Ring
public import Idealize.ShloMosaic.Lib.Tactic
public import Idealize.ShloMosaic.Lib.WordCmp
public import Idealize.ShloMosaic.Lib.VecWindow
public import Idealize.ShloMosaic.Lib.Pipeline.Value

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The codes the first point stores, from the activations. -/
def codesOf (x : Vec F S8x5120 .bf16) : Vec F S8x5120 .fp8e4m3 := k0_pay1 (k0_pay6 x) (k0_pay9 x) (k0_pay10 x)

/-- The scales the first point stores, from the activations. -/
def scaleOf (x : Vec F S8x5120 .bf16) : Vec F S8x1 .f32 := k0_pay2 (k0_pay7 x)

/-- The block of codes that the point at coordinates `i` multiplies. -/
def codesAt (i : grid0.Coords) (q : Vec F S8x5120 .fp8e4m3) : Vec F S8x256 .fp8e4m3 :=
  View.ld q (Rect.unit (s := S8x5120) (k0_off1 i) S8x256.size (k0_off1_inb i))

/-- The accumulator after a point that found it at `acc`: the product of its two blocks added. -/
def stepOf (i : grid0.Coords) (q : Vec F S8x5120 .fp8e4m3) (w : Vec F S256x6912 .fp8e4m3) (acc : Vec F S8x6912 .f32) :
    Vec F S8x6912 .f32 := k0_pay4 (codesAt i q) acc w

section

variable (c : Dev nD) (i : grid0.Coords) (arg1 : Memref sig .tc .vmem S8x5120 .bf16) (harg1 : arg1.IsWhole)
  (arg2 : Memref sig .tc .vmem S256x6912 .fp8e4m3) (harg2 : arg2.IsWhole) (arg3 : Memref sig .tc .vmem S1x6912 .f32) (harg3 : arg3.IsWhole)
  (arg4 : Memref sig .tc .vmem S8x6912 .bf16) (harg4 : arg4.IsWhole) (arg5 : Memref sig .tc .vmem S8x5120 .fp8e4m3) (harg5 : arg5.IsWhole)
  (arg6 : Memref sig .tc .vmem S8x1 .f32) (harg6 : arg6.IsWhole) (arg7 : Memref sig .tc .vmem S8x6912 .f32) (harg7 : arg7.IsWhole)
  (x : Vec F S8x5120 .bf16) (w : Vec F S256x6912 .fp8e4m3) (ws : Vec F S1x6912 .f32) (y : Vec F S8x6912 .bf16)
  (q : Vec F S8x5120 .fp8e4m3) (s : Vec F S8x1 .f32) (acc : Vec F S8x6912 .f32)

/-- The seven staging buffers a point works on, at given contents. -/
def bufs (x : Vec F S8x5120 .bf16) (w : Vec F S256x6912 .fp8e4m3) (ws : Vec F S1x6912 .f32) (y : Vec F S8x6912 .bf16)
    (q : Vec F S8x5120 .fp8e4m3) (s : Vec F S8x1 .f32) (acc : Vec F S8x6912 .f32) : sProp 𝕄 :=
  iprop(owns (c : Thread nD τ) arg1 fullShare x ∗ owns (c : Thread nD τ) arg2 fullShare w ∗ owns (c : Thread nD τ) arg3 fullShare ws
    ∗ owns (c : Thread nD τ) arg4 fullShare y ∗ owns (c : Thread nD τ) arg5 fullShare q ∗ owns (c : Thread nD τ) arg6 fullShare s
    ∗ owns (c : Thread nD τ) arg7 fullShare acc)

/-- The first point, whatever its outputs and accumulator held: codes and scales stored, the accumulator restarted. -/
theorem run_first (hc0 : k0_cond1 i = 1#1) (hc1 : ¬k0_cond2 i = 1#1) (E : Set ℕ) (K : PUnit → sProp 𝕄) :
    iprop(bufs c arg1 arg2 arg3 arg4 arg5 arg6 arg7 x w ws y q s acc
        ∗ (bufs c arg1 arg2 arg3 arg4 arg5 arg6 arg7 x w ws y (codesOf x) (scaleOf x) (stepOf i (codesOf x) w k0_pay3) -∗ K ⟨⟩))
      ⊢ wp frame (wpE (defs₀ (F := F)) Variants.none c none) E
          (cc0_w8a8_linear i arg1 harg1 arg2 harg2 arg3 harg3 arg4 harg4 arg5 harg5 arg6 harg6 arg7 harg7) K := by
  simp only [cc0_w8a8_linear_eq_skeleton]; unfold cc0_w8a8_linear_skel
  simp only [k0_part1_eq_skeleton]
  unfold bufs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  obtain rfl := harg1.eq_unread hf0; obtain rfl := harg2.eq_unread hf1; obtain rfl := harg3.eq_unread hf2; obtain rfl := harg4.eq_unread hf3
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  have hcodes : ∀ f, View.read (Elt F) arg5.view (arg5.view.writes (Elt F) f (run_first.sl.H4_1 c arg1 harg1 x)) = codesOf x := fun f => by
    unfold run_first.sl.H4_1 run_first.sl.r run_first.sl.r_2 run_first.sl.r_3
    rw [View.read_writes_full, View.readAt_full, harg1.read_unread]; rfl
  isplitl [H4]
  · iexists _; isplitr
    swap; · iexact H4
    ipureintro; exact hcodes _
  isplitl [H5]
  · iexists _; isplitr
    swap; · iexact H5
    ipureintro; unfold run_first.sl.r_1; rw [View.read_writes_full, View.readAt_full, harg1.read_unread]; rfl
  iexists _; isplitr
  swap; · iexact H6
  ipureintro; rw [View.read_writes_full]; unfold run_first.sl.v6 run_first.sl.v8 run_first.sl.H6_1 stepOf codesAt
  rw [View.readCov_unit_zero _ (by funext a; fin_cases a <;> rfl), View.readAt_full, harg2.read_unread, ← hcodes arg5.view.junk]; rfl

/-- A point in between: the accumulator advanced, all else as found. -/
theorem run_mid (hc0 : ¬k0_cond1 i = 1#1) (hc1 : ¬k0_cond2 i = 1#1) (E : Set ℕ) (K : PUnit → sProp 𝕄) :
    iprop(bufs c arg1 arg2 arg3 arg4 arg5 arg6 arg7 x w ws y q s acc
        ∗ (bufs c arg1 arg2 arg3 arg4 arg5 arg6 arg7 x w ws y q s (stepOf i q w acc) -∗ K ⟨⟩))
      ⊢ wp frame (wpE (defs₀ (F := F)) Variants.none c none) E
          (cc0_w8a8_linear i arg1 harg1 arg2 harg2 arg3 harg3 arg4 harg4 arg5 harg5 arg6 harg6 arg7 harg7) K := by
  simp only [cc0_w8a8_linear_eq_skeleton]; unfold cc0_w8a8_linear_skel
  unfold bufs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact H6
  ipureintro; rw [View.read_writes_full, View.readAt_full, View.readAt_full, harg7.read_unread, harg2.read_unread, View.readAt_eq_ld, harg5.read_unread]; rfl

/-- The last point: the accumulator advanced and the result stored from it. -/
theorem run_last (hc0 : ¬k0_cond1 i = 1#1) (hc1 : k0_cond2 i = 1#1) (E : Set ℕ) (K : PUnit → sProp 𝕄) :
    iprop(bufs c arg1 arg2 arg3 arg4 arg5 arg6 arg7 x w ws y q s acc
        ∗ (bufs c arg1 arg2 arg3 arg4 arg5 arg6 arg7 x w ws (k0_pay5 (stepOf i q w acc) s ws) q s (stepOf i q w acc) -∗ K ⟨⟩))
      ⊢ wp frame (wpE (defs₀ (F := F)) Variants.none c none) E
          (cc0_w8a8_linear i arg1 harg1 arg2 harg2 arg3 harg3 arg4 harg4 arg5 harg5 arg6 harg6 arg7 harg7) K := by
  simp only [cc0_w8a8_linear_eq_skeleton]; unfold cc0_w8a8_linear_skel
  unfold bufs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, Hk⟩
  obtain rfl := harg1.eq_unread hf0; obtain rfl := harg2.eq_unread hf1; obtain rfl := harg3.eq_unread hf2
  obtain rfl := harg5.eq_unread hf4; obtain rfl := harg6.eq_unread hf5; obtain rfl := harg7.eq_unread hf6
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  have hread : ∀ f, View.read (Elt F) arg7.view (arg7.view.writes (Elt F) f (run_last.sl.H6_1 c i arg2 harg2 arg5 harg5 arg7 harg7 w q acc)) = stepOf i q w acc := fun f => by
    unfold run_last.sl.H6_1
    rw [View.read_writes_full, View.readAt_full, View.readAt_full, harg7.read_unread, harg2.read_unread, View.readAt_eq_ld, harg5.read_unread]; rfl
  have hacc : run_last.sl.v18 c i arg2 harg2 arg5 harg5 arg7 harg7 w q acc = stepOf i q w acc := by
    rw [← hread arg7.view.junk]; unfold run_last.sl.v18; exact View.readAt_full _ _ _
  isplitl [H3]
  · iexists _; isplitr
    swap; · iexact H3
    ipureintro; rw [View.read_writes_full, hacc, View.readAt_full, View.readAt_full, harg6.read_unread, harg3.read_unread]
  isplitl [H4]
  · iexists _; isplitr; · ipureintro; exact harg5.read_unread _
    iexact H4
  isplitl [H5]
  · iexists _; isplitr; · ipureintro; exact harg6.read_unread _
    iexact H5
  iexists _; isplitr
  swap; · iexact H6
  ipureintro; exact hread _

end

end Cert.KernelIdeal.Run

end
-- ==== Proof.KernelIdealRun.lean ====
/- The kernel's run on the whole grid: the data of its pipeline, with the accumulator and the two outputs that the first
   point stores and the others read carried from point to point; the body's obligation at every point; the run. -/
module

public import proofs.«01_k».proof.Proof.KernelIdealRuns
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

/-- The first condition holds at the first point only. -/
theorem first_iff : ∀ t : Fin cfg0.N, k0_cond1 (grid0.coords t) = 1#1 ↔ t.val = 0 := by decide +kernel
/-- The second condition holds at the last point only. -/
theorem last_iff : ∀ t : Fin cfg0.N, k0_cond2 (grid0.coords t) = 1#1 ↔ t.val = 19 := by decide +kernel

/-- The result's window is idle but at the last point, -/
theorem idle3 : ∀ t : Fin cfg0.N, t.val ≠ 19 → cfg0.idle 3 (grid0.coords t) = true := by decide +kernel
/-- where it is not; -/
theorem live3 : ∀ t : Fin cfg0.N, t.val = 19 → cfg0.idle 3 (grid0.coords t) = false := by decide +kernel
/-- the codes' and the scales' windows are idle but at the first point, -/
theorem idle45 : ∀ t : Fin cfg0.N, t.val ≠ 0 → cfg0.idle 4 (grid0.coords t) = true ∧ cfg0.idle 5 (grid0.coords t) = true := by decide +kernel
/-- where they are not. -/
theorem live45 : ∀ t : Fin cfg0.N, t.val = 0 → cfg0.idle 4 (grid0.coords t) = false ∧ cfg0.idle 5 (grid0.coords t) = false := by decide +kernel
/-- No output is written back before the last point, -/
theorem flush_no : ∀ t : Fin cfg0.N, t.val ≠ 19 →
    (cfg0.win 3).flush t = false ∧ (cfg0.win 4).flush t = false ∧ (cfg0.win 5).flush t = false := by decide +kernel
/-- where all three are. -/
theorem flush_last : ∀ t : Fin cfg0.N, t.val = 19 →
    (cfg0.win 3).flush t = true ∧ (cfg0.win 4).flush t = true ∧ (cfg0.win 5).flush t = true := by decide +kernel
/-- No output is fetched. -/
theorem fetch_no : ∀ t : Fin cfg0.N, (cfg0.win 4).fetch t = false ∧ (cfg0.win 5).fetch t = false := by decide +kernel

/-! ## What is carried -/

/-- The first point. -/
abbrev p0 : Fin cfg0.N := ⟨0, by have : cfg0.N = 20 := N_0; omega⟩

/-- The codes the run stores. -/
def codes (c : Dev nD) : Vec F S8x5120 .fp8e4m3 := codesOf (iblk m c 0 p0)
/-- The scales the run stores. -/
def scales (c : Dev nD) : Vec F S8x1 .f32 := scaleOf (iblk m c 0 p0)

/-- The accumulator after point `n`. -/
def accAt (c : Dev nD) : (n : ℕ) → n < cfg0.N → Vec F S8x6912 .f32
  | 0, h => stepOf (grid0.coords ⟨0, h⟩) (codes m c) (iblk m c 1 ⟨0, h⟩) k0_pay3
  | n + 1, h => stepOf (grid0.coords ⟨n + 1, h⟩) (codes m c) (iblk m c 1 ⟨n + 1, h⟩) (accAt c n (by omega))

/-- The accumulator after the first point, -/
theorem accAt_first (c : Dev nD) (t : Fin cfg0.N) (h : t.val = 0) :
    accAt m c t.val t.isLt = stepOf (grid0.coords t) (codes m c) (iblk m c 1 t) k0_pay3 := by
  obtain ⟨n, hn⟩ := t; cases (show n = 0 from h); rfl

/-- and after a later one. -/
theorem accAt_later (c : Dev nD) (t : Fin cfg0.N) (h : t.val ≠ 0) : accAt m c t.val t.isLt
    = stepOf (grid0.coords t) (codes m c) (iblk m c 1 t) (accAt m c (t.val - 1) (by omega)) := by
  obtain ⟨n, hn⟩ := t
  cases n with
  | zero => exact absurd rfl h
  | succ n => rfl

/-- The scratch accumulator. -/
abbrev scM : Memref sig .tc .vmem S8x6912 .f32 := Memref.whole cc0_scratch0

/-- What holds between points: before the first, the scratch at anything; afterwards at what the point before left. -/
def Inv (c : Dev nD) : (n : ℕ) → n ≤ cfg0.N → sProp 𝕄
  | 0, _ => Pipeline.ΦA spec0 c
  | n + 1, h => iprop(owns (c : Thread nD τ) scM fullShare (accAt m c n h) ∗ (∃ r, prngReg c r))

theorem Inv_zero (c : Dev nD) (n : ℕ) (h : n ≤ cfg0.N) (hz : n = 0) : Inv m c n h = Pipeline.ΦA spec0 c := by
  subst hz; rfl

theorem Inv_pos (c : Dev nD) (n : ℕ) (h : n ≤ cfg0.N) (hz : n ≠ 0) :
    Inv m c n h = iprop(owns (c : Thread nD τ) scM fullShare (accAt m c (n - 1) (by omega)) ∗ (∃ r, prngReg c r)) := by
  cases n with
  | zero => exact absurd rfl hz
  | succ n => rfl

theorem PhiA_eq (c : Dev nD) : (Pipeline.ΦA spec0 c : sProp 𝕄)
    = iprop((∃ d, owns (c : Thread nD τ) scM fullShare d) ∗ (∃ r, prngReg c r)) := by
  unfold Pipeline.ΦA; rw [scopedRest0_eq]; simp only [scM, owns_whole]; try rfl

/-! ## The pipeline's data -/

/-- The arrays as the region finds them; after a point each input's buffer at its block, the codes' and the scales' at
    what the first point stored, the result's at what the last point stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay5 (accAt m c t.val t.isLt) (scales m c) (iblk m c 2 t)
    | ⟨4, _⟩ => codes m c
    | ⟨5, _⟩ => scales m c
  Φ t := Inv m c t.val (Nat.le_of_lt_succ t.isLt)
  q _ := fullShare
  owed _ := 0

theorem A_eq (c : Dev nD) (w : Fin cfg0.W) : (dats m 0 c).A w = V m c (Pipeline.arrRef spec0 w) := by dsimp only [dats]

theorem Inv_castSucc (c : Dev nD) (t : Fin cfg0.N) : (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = k0_pay5 (accAt m c t.val t.isLt) (scales m c) (iblk m c 2 t) := by dsimp only [dats]
theorem after4 (c : Dev nD) (t : Fin cfg0.N) : (dats m 0 c).after 4 t = codes m c := by dsimp only [dats]
theorem after5 (c : Dev nD) (t : Fin cfg0.N) : (dats m 0 c).after 5 t = scales m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- After the first point the codes' buffer holds the codes: every later point leaves it as found. -/
theorem before4 (c : Dev nD) : ∀ (n : ℕ) (h : n < cfg0.N), n ≠ 0 → ∀ d, (dats m 0 c).before 4 ⟨n, h⟩ d = codes m c := by
  intro n
  induction n with
  | zero => intro _ h; exact absurd rfl h
  | succ n ih =>
    intro h _ d
    have hN : cfg0.N = 20 := N_0
    rw [Dat.before_of_pos (dats m 0 c) 4 ⟨n + 1, h⟩ (Nat.succ_ne_zero n) (fetch_no _).1]
    rw [(flush_no ⟨n + 1 - 1, _⟩ (by show n + 1 - 1 ≠ 19; omega)).2.1, if_neg Bool.false_ne_true]
    unfold Dat.left
    by_cases hz : n = 0
    · rw [(live45 ⟨n + 1 - 1, _⟩ hz).1]; exact after4 m c _
    · rw [(idle45 ⟨n + 1 - 1, _⟩ hz).1]; exact ih _ hz d

/-- So does the scales' buffer. -/
theorem before5 (c : Dev nD) : ∀ (n : ℕ) (h : n < cfg0.N), n ≠ 0 → ∀ d, (dats m 0 c).before 5 ⟨n, h⟩ d = scales m c := by
  intro n
  induction n with
  | zero => intro _ h; exact absurd rfl h
  | succ n ih =>
    intro h _ d
    have hN : cfg0.N = 20 := N_0
    rw [Dat.before_of_pos (dats m 0 c) 5 ⟨n + 1, h⟩ (Nat.succ_ne_zero n) (fetch_no _).2]
    rw [(flush_no ⟨n + 1 - 1, _⟩ (by show n + 1 - 1 ≠ 19; omega)).2.2, if_neg Bool.false_ne_true]
    unfold Dat.left
    by_cases hz : n = 0
    · rw [(live45 ⟨n + 1 - 1, _⟩ hz).2]; exact after5 m c _
    · rw [(idle45 ⟨n + 1 - 1, _⟩ hz).2]; exact ih _ hz d

/-! ## The body's obligation -/

abbrev ms0 (t : Fin cfg0.N) : Memref sig .tc .vmem S8x5120 .bf16 := win0_0.stage (cfg0.slots t 0)
abbrev ms1 (t : Fin cfg0.N) : Memref sig .tc .vmem S256x6912 .fp8e4m3 := win0_1.stage (cfg0.slots t 1)
abbrev ms2 (t : Fin cfg0.N) : Memref sig .tc .vmem S1x6912 .f32 := win0_2.stage (cfg0.slots t 2)
abbrev ms3 (t : Fin cfg0.N) : Memref sig .tc .vmem S8x6912 .bf16 := win0_3.stage (cfg0.slots t 3)
abbrev ms4 (t : Fin cfg0.N) : Memref sig .tc .vmem S8x5120 .fp8e4m3 := win0_4.stage (cfg0.slots t 4)
abbrev ms5 (t : Fin cfg0.N) : Memref sig .tc .vmem S8x1 .f32 := win0_5.stage (cfg0.slots t 5)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4000000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = iprop(owns (c : Thread nD τ) scM fullShare (accAt m c t.val t.isLt) ∗ (∃ r, prngReg c r)) from rfl]
  rw [show (dats m 0 c).leavesExact 0 t = owns (c : Thread nD τ) (ms0 t) fullShare (iblk m c 0 t) from rfl,
    show (dats m 0 c).leavesExact 1 t = owns (c : Thread nD τ) (ms1 t) fullShare (iblk m c 1 t) from rfl,
    show (dats m 0 c).leavesExact 2 t = owns (c : Thread nD τ) (ms2 t) fullShare (iblk m c 2 t) from rfl]
  have hN : t.val < 20 := lt_of_lt_of_eq t.isLt (show cfg0.N = 20 from N_0)
  by_cases h0 : t.val = 0
  · have h19 : t.val ≠ 19 := by omega
    rw [Dat.leavesExact_idle (dats m 0 c) 3 t (idle3 t h19) (flush_no t h19).1,
      show (dats m 0 c).leavesExact 4 t = owns (c : Thread nD τ) (ms4 t) fullShare (codes m c) from by
        unfold Dat.leavesExact; rw [(live45 t h0).1, after4],
      show (dats m 0 c).leavesExact 5 t = owns (c : Thread nD τ) (ms5 t) fullShare (scales m c) from by
        unfold Dat.leavesExact; rw [(live45 t h0).2, after5]]
    rw [Inv_castSucc, Inv_zero m c _ _ h0, PhiA_eq, accAt_first m c t h0]
    have hp : codes m c = codesOf (iblk m c 0 t) ∧ scales m c = scaleOf (iblk m c 0 t) := by
      rw [show t = p0 from Fin.ext h0]; exact ⟨rfl, rfl⟩
    rw [hp.1, hp.2]
    iintro ⟨⟨⟨%a, HS⟩, Hg⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ (iblk m c 0 t) (iblk m c 1 t) (iblk m c 2 t) _ _ _ _
      ((first_iff t).mpr h0) (fun h => h19 ((last_iff t).mp h)) Set.univ _)
    unfold bufs
    isplitl [H0 H1 H2 H3 H4 H5 HS]
    · isplitl [H0]; · iexact H0
      isplitl [H1]; · iexact H1
      isplitl [H2]; · iexact H2
      isplitl [H3]; · iexact H3
      isplitl [H4]; · iexact H4
      isplitl [H5]; · iexact H5
      iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexists _; iexact H3
    isplitl [H4]; · iexact H4
    iexact H5
  · rw [Inv_castSucc, Inv_pos m c _ _ h0, accAt_later m c t h0]
    simp only [fun d => before4 m c t.val t.isLt h0 d, fun d => before5 m c t.val t.isLt h0 d]
    by_cases h19 : t.val = 19
    · rw [show (dats m 0 c).leavesExact 3 t = owns (c : Thread nD τ) (ms3 t) fullShare
            (k0_pay5 (stepOf (grid0.coords t) (codes m c) (iblk m c 1 t) (accAt m c (t.val - 1) (by omega))) (scales m c) (iblk m c 2 t)) from by
          unfold Dat.leavesExact; rw [live3 t h19, after3, accAt_later m c t h0],
        show (dats m 0 c).leavesExact 4 t = owns (c : Thread nD τ) (ms4 t) fullShare (codes m c) from by
          unfold Dat.leavesExact; rw [(idle45 t h0).1, (flush_last t h19).2.1, after4],
        show (dats m 0 c).leavesExact 5 t = owns (c : Thread nD τ) (ms5 t) fullShare (scales m c) from by
          unfold Dat.leavesExact; rw [(idle45 t h0).2, (flush_last t h19).2.2, after5]]
      iintro ⟨⟨HS, Hg⟩, Ho, ⟨%d0, H0⟩, ⟨%d1, H1⟩, ⟨%d2, H2⟩, ⟨%d3, H3⟩, ⟨%d4, H4⟩, ⟨%d5, H5⟩⟩
      iapply (run_last c (grid0.coords t) _ _ _ _ _ _ _ _ _ _ _ _ _ _ (iblk m c 0 t) (iblk m c 1 t) (iblk m c 2 t) _ _ _ _
        (fun h => h0 ((first_iff t).mp h)) ((last_iff t).mpr h19) Set.univ _)
      unfold bufs
      isplitl [H0 H1 H2 H3 H4 H5 HS]
      · isplitl [H0]; · iexact H0
        isplitl [H1]; · iexact H1
        isplitl [H2]; · iexact H2
        isplitl [H3]; · iexact H3
        isplitl [H4]; · iexact H4
        isplitl [H5]; · iexact H5
        iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dats m 0 c) 3 t (idle3 t h19) (flush_no t h19).1,
        Dat.leavesExact_idle (dats m 0 c) 4 t (idle45 t h0).1 (flush_no t h19).2.1,
        Dat.leavesExact_idle (dats m 0 c) 5 t (idle45 t h0).2 (flush_no t h19).2.2]
      simp only [fun d => before4 m c t.val t.isLt h0 d, fun d => before5 m c t.val t.isLt h0 d]
      iintro ⟨⟨HS, Hg⟩, Ho, ⟨%d0, H0⟩, ⟨%d1, H1⟩, ⟨%d2, H2⟩, ⟨%d3, H3⟩, ⟨%d4, H4⟩, ⟨%d5, H5⟩⟩
      iapply (run_mid c (grid0.coords t) _ _ _ _ _ _ _ _ _ _ _ _ _ _ (iblk m c 0 t) (iblk m c 1 t) (iblk m c 2 t) _ _ _ _
        (fun h => h0 ((first_iff t).mp h)) (fun h => h19 ((last_iff t).mp h)) Set.univ _)
      unfold bufs
      isplitl [H0 H1 H2 H3 H4 H5 HS]
      · isplitl [H0]; · iexact H0
        isplitl [H1]; · iexact H1
        isplitl [H2]; · iexact H2
        isplitl [H3]; · iexact H3
        isplitl [H4]; · iexact H4
        isplitl [H5]; · iexact H5
        iexact HS
      iintro ⟨H0, H1, H2, H3, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexists _; iexact H3
      isplitl [H4]; · iexists d4; iexact H4
      iexists d5; iexact H5

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Inv m c 0 (Nat.zero_le _) from rfl, Inv_zero m c 0 _ rfl]

theorem hout (c : Dev nD) : (dats m 0 c).Φ (Fin.last cfg0.N) ⊢ Pipeline.ΦA spec0 c := by
  rw [show (dats m 0 c).Φ (Fin.last cfg0.N) = Inv m c cfg0.N (Nat.le_refl _) from rfl,
    Inv_pos m c _ _ (by have : cfg0.N = 20 := N_0; omega), PhiA_eq]
  iintro ⟨HS, Hg⟩
  isplitl [HS]; · iexists _; iexact HS
  iexact Hg

/-! ## The run -/

set_option backward.isDefEq.respectTransparency.types false in
/-- Every fair execution ends, with every array at what the pipeline's data say, every other buffer as the region found it
    and every semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Run

end
-- ==== Proof.KernelRun.lean ====
/- The printed kernel and its idealization are one text, so the frame proved of the second, which is proved at any reading
   of the floats, is the frame of the first. -/
module

public import proofs.«01_k».proof.Defs
public import proofs.«01_k».proof.Proof.Gen.Kernel
public import proofs.«01_k».proof.Proof.KernelIdealRun
public import Idealize.ShloMosaic.Lib.Tactic

@[expose] public section

noncomputable section

namespace Cert.Proof

open Idealize.ShloMosaic Idealize.SL.Sem

/-- The kernel runs on machine floats, leaves its arguments unchanged and every semaphore counter at zero. -/
theorem quiescent_kernel : quiescent_Kernel (hKernel := Cert.Kernel.Gen.facts) :=
  fun m g _ => Eq.mp (by sl_kernel_rfl) (Cert.KernelIdeal.Run.frame (F := Bits) m g)

end Cert.Proof

end
-- ==== Proof.Exponent.lean ====
/- The exponent of a row's scale and the powers of two built from it: the integer the kernel reads out of the row's
   largest magnitude and the real number the reference computes from a logarithm name the same powers of two. -/
module

public import Idealize.ShloMosaic.Lib.ValueIdx
public import Idealize.ShloMosaic.PureOps.Reduce

@[expose] public section

noncomputable section

namespace Cert.Exponent

open Idealize.ShloMosaic

/-! ## Bit patterns whose mantissa is zero -/

/-- The value whose exponent field is `n` and whose other bits are zero. -/
def atField (n : ℕ) : EReal := if n = 255 then ⊤ else if n = 0 then 0 else (((2 : ℝ) ^ ((n : ℤ) - 127) : ℝ) : EReal)

theorem field_bits : ∀ n : Fin 256,
    ((BitVec.ofNat 32 n.val <<< 23#32).extractLsb' (8 + 23) 1 == 1#1) = false
      ∧ ((BitVec.ofNat 32 n.val <<< 23#32).extractLsb' 23 8).toNat = n.val
      ∧ ((BitVec.ofNat 32 n.val <<< 23#32).extractLsb' 0 23).toNat = 0 := by decide +kernel

/-- The word `n <<< 23`, read as a float, is `atField n`. -/
theorem ofBits_shl (n : ℕ) (hn : n < 256) : Ideal.ofBits .f32 (IntOp.shli .vector (BitVec.ofNat 32 n) 23#32) = atField n := by
  obtain ⟨h1, h2, h3⟩ := field_bits ⟨n, hn⟩
  dsimp only at h1 h2 h3
  have shl : IntOp.shli .vector (BitVec.ofNat 32 n) 23#32 = BitVec.ofNat 32 n <<< 23#32 := if_pos (by decide)
  rw [shl, Ideal.ofBits]
  unfold Ideal.ieee
  simp only [h1, h2, h3, atField]
  rcases Nat.lt_or_ge n 255 with h | h
  · rcases Nat.eq_zero_or_pos n with rfl | h0
    · simp
    · rw [if_neg (show ¬n = 2 ^ 8 - 1 by omega), if_neg (show ¬n = 255 by omega), if_neg (show ¬n = 0 by omega), if_neg (show ¬n = 0 by omega)]
      refine congrArg _ ?_
      have e : ((n : ℤ) - 127) = 23 + ((n : ℤ) - (2 ^ (8 - 1) - 1) - (23 : ℕ)) := by push_cast; ring
      rw [e, zpow_add₀ (by norm_num : (2 : ℝ) ≠ 0)]
      norm_num
  · obtain rfl : n = 255 := by omega
    simp

/-- `0x00000000` is zero. -/
theorem bits_zero : Ideal.ofBits .f32 0x00000000#32 = 0 := by
  simp [Ideal.ofBits, Ideal.ieee]

/-- `0x7F800000` is the positive infinity. -/
theorem bits_top : Ideal.ofBits .f32 0x7F800000#32 = ⊤ := by
  simp [Ideal.ofBits, Ideal.ieee]

/-- `0x3F800000` is one. -/
theorem bits_one : Ideal.ofBits .f32 0x3F800000#32 = ((1 : ℝ) : EReal) := by
  simp [Ideal.ofBits, Ideal.ieee, -EReal.coe_mul, -EReal.coe_neg]; try norm_num

/-- `0x40000000` is two. -/
theorem bits_two : Ideal.ofBits .f32 0x40000000#32 = ((2 : ℝ) : EReal) := by
  simp [Ideal.ofBits, Ideal.ieee, -EReal.coe_mul, -EReal.coe_neg]; try norm_num

/-- `0x42FE0000` is 127. -/
theorem bits_hi : Ideal.ofBits .f32 0x42FE0000#32 = ((127 : ℝ) : EReal) := by
  simp [Ideal.ofBits, Ideal.ieee, -EReal.coe_mul, -EReal.coe_neg]; try norm_num

/-- `0xC2FC0000` is -126. -/
theorem bits_lo : Ideal.ofBits .f32 0xC2FC0000#32 = ((-126 : ℝ) : EReal) := by
  simp [Ideal.ofBits, Ideal.ieee, -EReal.coe_mul, -EReal.coe_neg]; try norm_num

/-- `0x00800000` is the least positive normal number. -/
theorem bits_normal : Ideal.ofBits .f32 0x00800000#32 = (((2 : ℝ) ^ (-126 : ℤ) : ℝ) : EReal) := by
  simp [Ideal.ofBits, Ideal.ieee, -EReal.coe_mul, -EReal.coe_neg]; try norm_num

/-! ## The two computations of the exponent -/

/-- The exponent field of `v` by comparison: the greatest `j` below 256 whose pattern is at most `v`, else zero. -/
def field (v : EReal) : BitVec 32 :=
  (Finset.univ : Finset (Fin 256)).fold IntOp.maxsi 2147483648#32 fun j =>
    Scalar.select (Ideal.cmp .oge v (Ideal.ofBits .f32 (IntOp.shli .vector (BitVec.ofNat 32 j.val) 23#32))) (BitVec.ofNat 32 j.val) 0#32

/-- The kernel's exponent, of a row with largest magnitude `a` and scaled magnitude `v`. -/
def kexp (a v : EReal) : BitVec 32 :=
  Scalar.select (IntOp.ori (IntOp.ori (IntOp.cmpi .eq (field v) 0#32) (IntOp.cmpi .eq (field v) 255#32))
    (Ideal.cmp .oeq a (Ideal.ofBits .f32 0x00000000#32))) 0#32 (IntOp.subi (field v) 126#32)

/-- The kernel's power of two at the exponent `e`. -/
def kpow (e : BitVec 32) : EReal :=
  Ideal.ofBits .f32 (Scalar.select (IntOp.cmpi .sle (IntOp.addi e 127#32) 0#32) 0#32
    (IntOp.shli .vector (Scalar.select (IntOp.cmpi .sge (IntOp.addi e 127#32) 255#32) 255#32 (IntOp.addi e 127#32)) 23#32))

/-- The reference's exponent, of the same two magnitudes. -/
def rexp (a v : EReal) : EReal :=
  Scalar.select (Ideal.cmp .oeq a (Ideal.ofBits .f32 0x00000000#32)) (Ideal.ofBits .f32 0x00000000#32)
    (Scalar.select (IntOp.ori (Ideal.cmp .olt v (Ideal.ofBits .f32 0x00800000#32)) (Ideal.cmp .oeq v (Ideal.ofBits .f32 0x7F800000#32)))
      (Ideal.ofBits .f32 0x00000000#32)
      (Ideal.liftRound Int.floor (Ideal.div (Ideal.log v) (Ideal.log (Ideal.ofBits .f32 0x40000000#32)))
        + Ideal.ofBits .f32 0x3F800000#32))

/-- The reference's power of two at the exponent `e`. -/
def rpow (e : EReal) : EReal :=
  Scalar.select (Ideal.cmp .ogt e (Ideal.ofBits .f32 0x42FE0000#32)) (Ideal.ofBits .f32 0x7F800000#32)
    (Scalar.select (Ideal.cmp .olt e (Ideal.ofBits .f32 0xC2FC0000#32)) (Ideal.ofBits .f32 0x00000000#32) (Ideal.exp2 e))

/-! ## The field by comparison -/

theorem toInt_maxsi (x y : BitVec 32) : (IntOp.maxsi x y).toInt = max x.toInt y.toInt := by
  unfold IntOp.maxsi
  by_cases h : y.slt x = true
  · rw [if_pos h, max_eq_left]; exact (BitVec.slt_iff_toInt_lt.1 h).le
  · rw [if_neg h, max_eq_right]; exact not_lt.1 fun h' => h (BitVec.slt_iff_toInt_lt.2 h')

theorem select_ofBool {α : Type} (p : Prop) [Decidable p] (x y : α) :
    Scalar.select (BitVec.ofBool (decide p)) x y = if p then x else y := by
  by_cases h : p <;> simp [h, Scalar.select]

/-- If `n`'s pattern is at most `v` (or `n` is zero) and no greater field's is, the field is `n`. -/
theorem field_eq (v : EReal) (n : ℕ) (hn : n < 256) (h1 : n = 0 ∨ atField n ≤ v)
    (h2 : ∀ j < 256, atField j ≤ v → j ≤ n) : field v = BitVec.ofNat 32 n := by
  have small (j : ℕ) (hj : j < 256) : (BitVec.ofNat 32 j).toInt = j := by
    rw [BitVec.toInt_ofNat']
    exact Int.bmod_eq_of_le (by omega) (by omega)
  have val (j : Fin 256) : (Scalar.select (Ideal.cmp .oge v (Ideal.ofBits .f32 (IntOp.shli .vector (BitVec.ofNat 32 j.val) 23#32)))
      (BitVec.ofNat 32 j.val) 0#32).toInt = if atField j.val ≤ v then (j.val : ℤ) else 0 := by
    rw [ofBits_shl j.val j.isLt, Ideal.cmp, select_ofBool]
    split
    · exact small j.val j.isLt
    · rfl
  apply BitVec.eq_of_toInt_eq
  rw [field, ← Finset.fold_hom (op' := max) toInt_maxsi, small n hn]
  simp only [val]
  apply le_antisymm
  · refine (Finset.fold_max_le _).2 ⟨?_, fun j _ => ?_⟩
    · exact le_trans (by decide : (2147483648#32 : BitVec 32).toInt ≤ 0) (Int.natCast_nonneg n)
    · split
      · rename_i h; exact_mod_cast h2 j.val j.isLt h
      · exact Int.natCast_nonneg n
  · refine (Finset.le_fold_max _).2 (.inr ⟨⟨n, hn⟩, Finset.mem_univ _, ?_⟩)
    rcases h1 with rfl | h1
    · split <;> simp
    · rw [if_pos h1]

/-! ## The exponents agree -/

theorem ori_ofBool (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

/-- The kernel's exponent as a case distinction, once the field is known. -/
theorem kexp_eq (a v : EReal) (n : ℕ) (hn : n < 256) (h : field v = BitVec.ofNat 32 n) :
    kexp a v = if (n = 0 ∨ n = 255) ∨ a = 0 then BitVec.ofInt 32 0 else BitVec.ofInt 32 ((n : ℤ) - 126) := by
  have word (i : ℕ) (hi : i < 256) : IntOp.cmpi .eq (BitVec.ofNat 32 n) (BitVec.ofNat 32 i) = BitVec.ofBool (decide (n = i)) := by
    refine congrArg BitVec.ofBool (Bool.eq_iff_iff.2 ?_)
    rw [beq_iff_eq, decide_eq_true_iff]
    constructor
    · intro e
      have := congrArg BitVec.toNat e
      simpa [Nat.mod_eq_of_lt (show n < 4294967296 by omega), Nat.mod_eq_of_lt (show i < 4294967296 by omega)] using this
    · rintro rfl; rfl
  have sub : IntOp.subi (BitVec.ofNat 32 n) 126#32 = BitVec.ofInt 32 ((n : ℤ) - 126) :=
    (by decide +kernel : ∀ i : Fin 256, IntOp.subi (BitVec.ofNat 32 i.val) 126#32 = BitVec.ofInt 32 ((i.val : ℤ) - 126)) ⟨n, hn⟩
  rw [kexp, h, word 0 (by omega), word 255 (by omega), bits_zero, Ideal.cmp, ori_ofBool, ori_ofBool, select_ofBool, sub]
  rfl

/-- The reference's exponent as a case distinction. -/
theorem rexp_eq (a v : EReal) :
    rexp a v = if a = 0 then 0 else if v < (((2 : ℝ) ^ (-126 : ℤ) : ℝ) : EReal) ∨ v = ⊤ then 0
      else Ideal.liftRound Int.floor (Ideal.div (Ideal.log v) (Ideal.log ((2 : ℝ) : EReal))) + ((1 : ℝ) : EReal) := by
  rw [rexp, bits_zero, bits_normal, bits_top, bits_two, bits_one, Ideal.cmp, Ideal.cmp, Ideal.cmp, ori_ofBool, select_ofBool,
    select_ofBool]

/-- The integer part of the logarithm to base two. -/
def lg (r : ℝ) : ℤ := ⌊Real.log r / Real.log 2⌋

/-- A positive real lies between the power of two at its logarithm's integer part and the next. -/
theorem lg_bounds (r : ℝ) (hr : 0 < r) : (2 : ℝ) ^ lg r ≤ r ∧ r < (2 : ℝ) ^ (lg r + 1) := by
  have pos : 0 < Real.log 2 := Real.log_pos (by norm_num)
  obtain ⟨h1, h2⟩ := Int.floor_eq_iff.1 (rfl : ⌊Real.log r / Real.log 2⌋ = lg r)
  rw [le_div_iff₀ pos] at h1
  rw [div_lt_iff₀ pos] at h2
  constructor
  · rw [← Real.log_le_log_iff (by positivity) hr, Real.log_zpow]; exact h1
  · rw [← Real.log_lt_log_iff hr (by positivity), Real.log_zpow]; exact_mod_cast h2

/-- The floor of a positive real's logarithm to base two, plus one, as the reference computes it. -/
theorem floor_log (r : ℝ) (hr : 0 < r) :
    Ideal.liftRound Int.floor (Ideal.div (Ideal.log (r : EReal)) (Ideal.log ((2 : ℝ) : EReal))) + ((1 : ℝ) : EReal)
      = (((lg r + 1 : ℤ) : ℝ) : EReal) := by
  have h2 : Real.log 2 ≠ 0 := (Real.log_pos (by norm_num)).ne'
  rw [Ideal.log_coe, Ideal.log_coe, if_neg (not_le.2 hr), if_neg (by norm_num), Ideal.div_coe h2, ← EReal.coe_mul, Ideal.liftRound_coe,
    ← EReal.coe_add, mul_one_div]
  rw [lg]; push_cast; rfl

/-- A positive normal number's field: one more than the exponent's distance from the least, up to 254. -/
theorem field_real (r : ℝ) (h : (2 : ℝ) ^ (-126 : ℤ) ≤ r) :
    -126 ≤ lg r ∧ field (r : EReal) = BitVec.ofNat 32 (min (lg r + 127) 254).toNat := by
  have hr : 0 < r := lt_of_lt_of_le (by positivity) h
  obtain ⟨lo, hi⟩ := lg_bounds r hr
  have one : (1 : ℝ) < 2 := by norm_num
  have hL : -126 ≤ lg r := by
    have := (zpow_lt_zpow_iff_right₀ one).1 (h.trans_lt hi); omega
  refine ⟨hL, field_eq _ _ (by omega) (.inr ?_) fun j hj hv => ?_⟩
  · rw [atField, if_neg (by omega), if_neg (by omega), EReal.coe_le_coe_iff]
    exact le_trans (zpow_le_zpow_right₀ one.le (by omega)) lo
  · rw [atField] at hv
    split at hv
    · exact absurd hv (not_le.2 (EReal.coe_lt_top r))
    · split at hv
      · omega
      · have := (zpow_lt_zpow_iff_right₀ one).1 ((EReal.coe_le_coe_iff.1 hv).trans_lt hi)
        omega

/-- Below the normal numbers the field is zero. -/
theorem field_small (v : EReal) (h : v < (((2 : ℝ) ^ (-126 : ℤ) : ℝ) : EReal)) : field v = BitVec.ofNat 32 0 := by
  refine field_eq v 0 (by decide) (.inl rfl) fun j hj hv => ?_
  by_contra hj0
  refine absurd (hv.trans_lt h) (not_lt.2 ?_)
  rw [atField]
  split
  · exact le_top
  · rw [if_neg (by omega), EReal.coe_le_coe_iff]
    exact zpow_le_zpow_right₀ (by norm_num) (by omega)

/-- The infinity's field is 255. -/
theorem field_top : field ⊤ = BitVec.ofNat 32 255 := field_eq ⊤ 255 (by decide) (.inr le_top) fun j hj _ => by omega

/-- The kernel's exponent is an integer word `k`, the reference's the integer `l`, no less than -125, and `k` is `l`
    brought down to 128 where it is greater. -/
theorem exponents (a v : EReal) : ∃ k l : ℤ, kexp a v = BitVec.ofInt 32 k ∧ rexp a v = ((l : ℝ) : EReal) ∧ -125 ≤ l ∧ k = min l 128 := by
  have zero : ((((0 : ℤ) : ℝ)) : EReal) = 0 := by simp
  by_cases small : v < (((2 : ℝ) ^ (-126 : ℤ) : ℝ) : EReal)
  · refine ⟨0, 0, ?_, ?_, by omega, by omega⟩
    · rw [kexp_eq a v 0 (by decide) (field_small v small), if_pos (.inl (.inl rfl))]
    · rw [rexp_eq, if_pos (show _ ∨ v = ⊤ from .inl small), ite_self, zero]
  by_cases top : v = ⊤
  · refine ⟨0, 0, ?_, ?_, by omega, by omega⟩
    · subst top; rw [kexp_eq a ⊤ 255 (by decide) field_top, if_pos (.inl (.inr rfl))]
    · rw [rexp_eq, if_pos (show v < _ ∨ v = ⊤ from .inr top), ite_self, zero]
  induction v using EReal.rec with
  | bot => exact absurd (EReal.bot_lt_coe _) small
  | top => exact absurd rfl top
  | coe r =>
    have hr : (2 : ℝ) ^ (-126 : ℤ) ≤ r := EReal.coe_le_coe_iff.1 (not_lt.1 small)
    obtain ⟨hL, hf⟩ := field_real r hr
    by_cases ha : a = 0
    · refine ⟨0, 0, ?_, ?_, by omega, by omega⟩
      · rw [kexp_eq a r _ (by omega) hf, if_pos (.inr ha)]
      · rw [rexp_eq, if_pos ha, zero]
    · refine ⟨min (lg r + 1) 128, lg r + 1, ?_, ?_, by omega, rfl⟩
      · rw [kexp_eq a r _ (by omega) hf, if_neg (by rintro ((h | h) | h) <;> first | exact ha h | omega)]
        congr 1; omega
      · rw [rexp_eq, if_neg ha, if_neg (not_or.2 ⟨small, top⟩), floor_log r (lt_of_lt_of_le (by positivity) hr)]

/-! ## The powers agree -/

theorem kpow_word : ∀ i : Fin 257,
    Scalar.select (IntOp.cmpi .sle (IntOp.addi (BitVec.ofInt 32 ((i.val : ℤ) - 128)) 127#32) 0#32) 0#32
      (IntOp.shli .vector (Scalar.select (IntOp.cmpi .sge (IntOp.addi (BitVec.ofInt 32 ((i.val : ℤ) - 128)) 127#32) 255#32) 255#32
        (IntOp.addi (BitVec.ofInt 32 ((i.val : ℤ) - 128)) 127#32)) 23#32)
      = IntOp.shli .vector (BitVec.ofNat 32 (i.val - 1)) 23#32 := by decide +kernel

/-- The kernel's power at `k`, read by its field. -/
theorem kpow_eq (k : ℤ) (h1 : -128 ≤ k) (h2 : k ≤ 128) : kpow (BitVec.ofInt 32 k) = atField (k + 127).toNat := by
  have h := kpow_word ⟨(k + 128).toNat, by omega⟩
  simp only [show (((k + 128).toNat : ℕ) : ℤ) - 128 = k by omega] at h
  rw [kpow, h, ofBits_shl _ (by omega), show (k + 128).toNat - 1 = (k + 127).toNat by omega]

/-- The two powers at integers that agree, or are both past the greatest exponent, or both below the least. -/
theorem pow_eq (k l : ℤ) (h1 : -128 ≤ k) (h2 : k ≤ 128) (h : k = l ∨ (128 ≤ k ∧ 128 ≤ l) ∨ (k ≤ -127 ∧ l ≤ -127)) :
    kpow (BitVec.ofInt 32 k) = rpow ((l : ℝ) : EReal) := by
  rw [kpow_eq k h1 h2, rpow, bits_hi, bits_lo, bits_zero, bits_top]
  rw [Ideal.cmp, Ideal.cmp, select_ofBool, select_ofBool]
  simp only [EReal.coe_lt_coe_iff]
  by_cases hi : 128 ≤ l
  · rw [if_pos (by exact_mod_cast (by omega : (127 : ℤ) < l)), show (k + 127).toNat = 255 by omega]; rfl
  rw [if_neg (by intro h'; have : (127 : ℤ) < l := by exact_mod_cast h'
                 omega)]
  by_cases lo : l ≤ -127
  · rw [if_pos (by exact_mod_cast (by omega : l < (-126 : ℤ))), show (k + 127).toNat = 0 by omega]; rfl
  rw [if_neg (by intro h'; have : l < (-126 : ℤ) := by exact_mod_cast h'
                 omega)]
  obtain rfl : k = l := by omega
  rw [atField, if_neg (by omega), if_neg (by omega), Ideal.exp2_coe]
  congr 1
  rw [show (((k + 127).toNat : ℕ) : ℤ) - 127 = k by omega]
  exact (Real.rpow_intCast 2 k).symm

/-- The scales agree. -/
theorem scale_eq (a v : EReal) : kpow (kexp a v) = rpow (rexp a v) := by
  obtain ⟨k, l, hk, hl, h1, h2⟩ := exponents a v
  rw [hk, hl]
  exact pow_eq k l (by omega) (by omega) (by omega)

/-- The inverse scales agree. -/
theorem inverse_eq (a v : EReal) :
    kpow (IntOp.subi 0#32 (kexp a v)) = rpow (Ideal.ofBits .f32 0x00000000#32 - rexp a v) := by
  obtain ⟨k, l, hk, hl, h1, h2⟩ := exponents a v
  have e1 : IntOp.subi 0#32 (BitVec.ofInt 32 k) = BitVec.ofInt 32 (-k) := by
    rw [BitVec.ofInt_neg]; exact BitVec.zero_sub _
  have e2 : (0 : EReal) - ((l : ℝ) : EReal) = (((-l : ℤ) : ℝ) : EReal) := by
    rw [zero_sub, ← EReal.coe_neg]; push_cast; rfl
  rw [hk, hl, bits_zero, e1, e2]
  exact pow_eq (-k) (-l) (by omega) (by omega) (by omega)

end Cert.Exponent
-- ==== Proof.ReferenceIdealValue.lean ====
/- What the reference's three result arrays hold after the run: each is what the body stores, from the whole arguments. -/
module

public import proofs.«01_k».proof.Proof.Gen.ReferenceIdeal.Frame
public import proofs.«01_k».proof.Proof.Gen.ReferenceIdeal.Skeleton
public import Idealize.ShloMosaic.Lib.Claim
public import Idealize.ShloMosaic.Lib.Pipeline.ValueKit

@[expose] public section

set_option maxRecDepth 16384

noncomputable section

namespace Cert.ReferenceIdeal.Run

open Idealize.ShloMosaic Idealize.ShloMosaic.TcCoe Idealize.SL.Sem
open Cert.ReferenceIdeal.Gen

variable {F : FTy → Type} [FloatOps F]
variable (m : (ℓ : Loc nD τ sig) → Buf (Elt F) ℓ) (ρ : Dev nD → PrngReg)

/-- The one point. -/
abbrev p0 : Fin cfg0.N := ⟨0, by decide⟩

/-- The codes the reference stores for the rows `x`, -/
def codesOf (x : Vec F S8x5120 .bf16) : Vec F S8x5120 .fp8e4m3 := k0_pay1 (k0_pay3 x) (k0_pay7 x) (k0_pay8 x) (k0_pay9 x)
/-- and the result for the weights `w` and the columns' scales `s`. -/
def resultOf (x : Vec F S8x5120 .bf16) (w : Vec F S5120x6912 .fp8e4m3) (s : Vec F S1x6912 .f32) : Vec F S8x6912 .bf16 :=
  k0_pay2 (k0_pay3 x) (k0_pay5 x) (k0_pay7 x) (k0_pay8 x) (k0_pay9 x) w s

theorem blk0 (c : Dev nD) : iblk m c 0 p0 = V m c main_v0 := by
  funext y
  have e : ∀ t : Fin cfg0.N, win0_0.index t = ![0, 0] := (by decide +kernel : ∀ t : Fin grid0.N, _)
  blk_simp [iblk]
  refine congrArg (V m c main_v0) ?_
  blk_ext [e]

theorem blk1 (c : Dev nD) : iblk m c 1 p0 = V m c main_arg1 := by
  funext y
  have e : ∀ t : Fin cfg0.N, win0_1.index t = ![0, 0] := (by decide +kernel : ∀ t : Fin grid0.N, _)
  blk_simp [iblk]
  refine congrArg (V m c main_arg1) ?_
  blk_ext [e]

theorem blk2 (c : Dev nD) : iblk m c 2 p0 = V m c main_v1 := by
  funext y
  have e : ∀ t : Fin cfg0.N, win0_2.index t = ![0, 0] := (by decide +kernel : ∀ t : Fin grid0.N, _)
  blk_simp [iblk]
  refine congrArg (V m c main_v1) ?_
  blk_ext [e]

/-- What the body leaves for the result, -/
theorem out3 (x : Vec F S8x5120 .bf16) (w : Vec F S5120x6912 .fp8e4m3) (s : Vec F S1x6912 .f32) :
    out0_3 x w s = resultOf x w s := by
  unfold_out out0_3; frame_out; rfl
/-- for the codes -/
theorem out4 (x : Vec F S8x5120 .bf16) (w : Vec F S5120x6912 .fp8e4m3) (s : Vec F S1x6912 .f32) :
    out0_4 x w s = codesOf x := by
  unfold_out out0_4; frame_out; rfl
/-- and for the scales. -/
theorem out5 (x : Vec F S8x5120 .bf16) (w : Vec F S5120x6912 .fp8e4m3) (s : Vec F S1x6912 .f32) :
    out0_5 x w s = k0_pay5 x := by
  unfold_out out0_5; frame_out

theorem final3 (c : Dev nD) : (dats m 0 c).arrAt 3 cfg0.N = resultOf (V m c main_v0) (V m c main_arg1) (V m c main_v1) :=
  (dats m 0 c).arrAt_eq_of_after_last 3 p0 (by decide +kernel) _ (fun j => by rw [after0_3, out3, blk0, blk1, blk2]; rfl)
theorem final4 (c : Dev nD) : (dats m 0 c).arrAt 4 cfg0.N = codesOf (V m c main_v0) :=
  (dats m 0 c).arrAt_eq_of_after_last 4 p0 (by decide +kernel) _ (fun j => by rw [after0_4, out4, blk0]; rfl)
theorem final5 (c : Dev nD) : (dats m 0 c).arrAt 5 cfg0.N = k0_pay5 (V m c main_v0) :=
  (dats m 0 c).arrAt_eq_of_after_last 5 p0 (by decide +kernel) _ (fun j => by rw [after0_5, out5, blk0]; rfl)

/-- The run with the result arrays at what they end holding and the arguments unchanged. -/
theorem run_value : θ_run defs (onTc (τ := τ) (main (F := F))) ⟨m, fun _ => 0, ρ⟩ (fun r => ∀ c : Dev nD,
      r.2.mem ((c.tc : Thread nD τ).loc main_v2_0) = resultOf (V m c main_v0) (V m c main_arg1) (V m c main_v1)
      ∧ r.2.mem ((c.tc : Thread nD τ).loc main_v2_1) = codesOf (V m c main_v0)
      ∧ r.2.mem ((c.tc : Thread nD τ).loc main_v2_2) = k0_pay5 (V m c main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.2 c).1 3 |>.trans (final3 m c), (h.2 c).1 4 |>.trans (final4 m c),
      (h.2 c).1 5 |>.trans (final5 m c), h.1.1 c⟩) (θ_run_and (frame m ρ) (run_main m ρ))

end Cert.ReferenceIdeal.Run

end
-- ==== Proof.Payloads.lean ====
/- The kernel's codes and scales are the reference's, at the ideal instance: row by row both are built from the row's largest
   magnitude, through two computations of the same power of two. -/
module

public import proofs.«01_k».proof.Proof.Exponent
public import proofs.«01_k».proof.Proof.KernelIdealRuns
public import proofs.«01_k».proof.Proof.ReferenceIdealValue
public import Idealize.ShloMosaic.Lib.ValueLayoutCasts
public import Idealize.ShloMosaic.Lib.Pipeline.Value

@[expose] public section

set_option maxRecDepth 16384

noncomputable section

namespace Cert.Payloads

open Idealize.ShloMosaic hiding ix2 eq_ix2 ix1
open Idealize.ShloMosaic.ValueIdx
open Cert.KernelIdeal Cert.KernelIdeal.Gen
open Cert.Exponent

variable (x : Vec Ideal S8x5120 .bf16)

/-- Each row's largest magnitude, in a column. -/
def amax : FVec Ideal S8x1 .f32 :=
  shapeCast S8x1 (multiReduction .maximumf [1] S8 (absf (k0_pay6 x)) 0xFF800000#32 reduces_S8x5120_S8 (.inl rfl) rfl) shapeCasts_S8_S8x1

/-- The magnitude divided by 448, as both programs compute it. -/
def scaled : FVec Ideal S8x1 .f32 := mulf (amax x) (broadcast S8x1 (Scalar.ofBits .f32 0x3B124925#32))

/-- What the kernel compares and selects: at row `r` and column `j`, `j` where `j`'s pattern is at most the row's value, else zero. -/
def marks : IVec S8x256 32 :=
  select (cmpf .oge (broadcastTo S8x256 (scaled x) broadcasts_S8x1_S8x256)
      (broadcastTo S8x256 (bitcastToFloat .f32 (shli (iota .tc S1x256 32 [1] iota_S1x256_d1_w32) (broadcast S1x256 23#32))) broadcasts_S1x256_S8x256))
    (broadcastTo S8x256 (shapeCast S1x256 (iota .tc S1x256 32 [1] iota_S1x256_d1_w32) shapeCasts_S1x256_S1x256) broadcasts_S1x256_S8x256)
    (broadcast S8x256 0#32)

/-- Each row's greatest mark, in a column. -/
def fields : IVec S8x1 32 :=
  shapeCast S8x1 (multiReductionI .maxsi [1] S8 (marks x) 2147483648#32 reduces_S8x256_S8 rfl) shapeCasts_S8_S8x1

theorem iota_apply (j : Fin 256) : iota .tc S1x256 32 [1] iota_S1x256_d1_w32 (ix2 0 j) = BitVec.ofNat 32 j.val := by
  simp [iota]

theorem marks_apply (r : Fin 8) (j : Fin 256) :
    marks x (ix2 r j) = Scalar.select (Ideal.cmp .oge (scaled x (ix2 r 0))
      (Ideal.ofBits .f32 (IntOp.shli .vector (BitVec.ofNat 32 j.val) 23#32))) (BitVec.ofNat 32 j.val) 0#32 := by
  unfold marks
  rw [select_apply, cmpf_apply, shapeCast_self,
    broadcastTo_apply (scaled x) broadcasts_S8x1_S8x256 (ix2 r j) (ix2 r 0) (by intro a; fin_cases a <;> rfl),
    broadcastTo_apply _ broadcasts_S1x256_S8x256 (ix2 r j) (ix2 0 j) (by intro a; fin_cases a <;> rfl),
    broadcastTo_apply _ broadcasts_S1x256_S8x256 (ix2 r j) (ix2 0 j) (by intro a; fin_cases a <;> rfl), ← iota_apply]
  rfl

/-- The indices of row `r`, by column. -/
def rowIdx (r : Fin 8) : Fin 256 ↪ S8x256.Idx where
  toFun j := ix2 r j
  inj' j j' h := by
    have h1 : (ix2 r j : S8x256.Idx) 1 = (ix2 r j' : S8x256.Idx) 1 := congrFun h 1
    exact h1

/-- Each row's greatest mark is the exponent field of the row's value. -/
theorem fields_apply (r : Fin 8) : fields x (ix2 r 0) = field (scaled x (ix2 r 0)) := by
  unfold fields
  rw [shapeCast_a_a1_apply]
  refine (multiReductionI_eq_fold .maxsi (marks x) 2147483648#32 reduces_S8x256_S8 rfl (ix1 r)).trans ?_
  have set : (Finset.univ.filter fun i : S8x256.Idx => reduces_S8x256_S8.drop i = ix1 r)
      = Finset.univ.map (rowIdx r) := by
    ext i
    simp only [Finset.mem_filter, Finset.mem_univ, true_and, Finset.mem_map]
    constructor
    · intro h
      have h0 : (i 0 : ℕ) = r.val := by
        rw [← reduces_S8x256_S8.drop_apply_val_of_eq i 0 0, h]
      refine ⟨i 1, ?_⟩
      exact (congrArg (fun r' => (ix2 r' (i 1) : S8x256.Idx)) (Fin.ext h0.symm : r = i 0)).trans (eq_ix2 i).symm
    · rintro ⟨j, rfl⟩
      refine funext fun b => Fin.ext ?_
      obtain rfl : b = 0 := Subsingleton.elim _ _
      exact reduces_S8x256_S8.drop_apply_val_of_eq (ix2 r j) 0 0
  rw [set, Finset.fold_map]
  have terms : (marks x ∘ rowIdx r) = fun j : Fin 256 =>
      Scalar.select (Ideal.cmp .oge (scaled x (ix2 r 0)) (Ideal.ofBits .f32 (IntOp.shli .vector (BitVec.ofNat 32 j.val) 23#32)))
        (BitVec.ofNat 32 j.val) 0#32 := funext fun j => marks_apply x r j
  rw [terms]
  unfold field
  generalize (fun j : Fin 256 =>
      Scalar.select (Ideal.cmp .oge (scaled x (ix2 r 0)) (Ideal.ofBits .f32 (IntOp.shli .vector (BitVec.ofNat 32 j.val) 23#32)))
        (BitVec.ofNat 32 j.val) 0#32) = f
  rfl

/-- The kernel's exponents, from the fields. -/
theorem kernel_exponents :
    k0_pay7 x = select (ori (ori (cmpi .eq (fields x) (broadcast S8x1 0#32)) (cmpi .eq (fields x) (broadcast S8x1 255#32)))
      (cmpf .oeq (amax x) (broadcast S8x1 (Scalar.ofBits .f32 0x00000000#32)))) (broadcast S8x1 0#32)
      (subi (fields x) (broadcast S8x1 126#32)) := by
  simp only [k0_pay7, fields, marks, scaled, amax]

/-- The kernel's exponent of row `r`. -/
theorem kernel_exponent (r : Fin 8) : k0_pay7 x (ix2 r 0) = kexp (amax x (ix2 r 0)) (scaled x (ix2 r 0)) := by
  rw [kexp, ← fields_apply, kernel_exponents]
  simp only [select, ori, cmpi, cmpf, broadcast, subi, Scalar.ofBits, Ideal.ofBits_def, Ideal.cmpf_def]

/-- The two programs read the rows alike. -/
theorem rows_eq : Cert.ReferenceIdeal.Gen.k0_pay3 x = k0_pay6 x := by
  simp only [Cert.ReferenceIdeal.Gen.k0_pay3, k0_pay6]

/-- The reference's exponents, from the same magnitudes. -/
theorem reference_exponents :
    Cert.ReferenceIdeal.Gen.k0_pay4 x = select (cmpf .oeq (amax x) (broadcast S8x1 (Scalar.ofBits .f32 0x00000000#32)))
      (broadcast S8x1 (Scalar.ofBits .f32 0x00000000#32))
      (select (ori (cmpf .olt (scaled x) (broadcast S8x1 (Scalar.ofBits .f32 0x00800000#32)))
          (cmpf .oeq (scaled x) (broadcast S8x1 (Scalar.ofBits .f32 0x7F800000#32))))
        (broadcast S8x1 (Scalar.ofBits .f32 0x00000000#32))
        (addf (floor (divf (log (scaled x)) (log (broadcast S8x1 (Scalar.ofBits .f32 0x40000000#32)))))
          (broadcast S8x1 (Scalar.ofBits .f32 0x3F800000#32)))) := by
  simp only [Cert.ReferenceIdeal.Gen.k0_pay4, scaled, amax, rows_eq]

/-- The reference's exponent of row `r`. -/
theorem reference_exponent (r : Fin 8) :
    Cert.ReferenceIdeal.Gen.k0_pay4 x (ix2 r 0) = rexp (amax x (ix2 r 0)) (scaled x (ix2 r 0)) := by
  rw [rexp, reference_exponents]
  simp only [select, ori, cmpf, broadcast, addf, floor, divf, log, Scalar.ofBits, Ideal.ofBits_def, Ideal.cmpf_def, Ideal.addf_def,
    Ideal.floor_def, Ideal.divf_def, Ideal.log_def]

/-- An index into a column of eight is its row and column zero. -/
theorem eq_column (i : S8x1.Idx) : ∃ r : Fin 8, i = ix2 r 0 :=
  ⟨i 0, (eq_ix2 i).trans (congrArg (ix2 (i 0)) (Fin.ext (by have := idx2_lt1 i; show (i 1).val = 0; omega)))⟩

/-- The ideal power of two. -/
theorem exp2_ideal (e : Ideal .f32) : FloatOps.exp2 e = Ideal.exp2 e := rfl

/-- The scales agree. -/
theorem scales_eq : Cert.KernelIdeal.Run.scaleOf x = Cert.ReferenceIdeal.Gen.k0_pay5 x := by
  funext i
  obtain ⟨r, rfl⟩ := eq_column i
  have hk : Cert.KernelIdeal.Run.scaleOf x (ix2 r 0) = kpow (k0_pay7 x (ix2 r 0)) := by
    simp only [Cert.KernelIdeal.Run.scaleOf, k0_pay2, kpow, select, cmpi, addi, shli, broadcast, bitcastToFloat, Ideal.ofBits_def]
  have hr : Cert.ReferenceIdeal.Gen.k0_pay5 x (ix2 r 0) = rpow (Cert.ReferenceIdeal.Gen.k0_pay4 x (ix2 r 0)) := by
    simp only [Cert.ReferenceIdeal.Gen.k0_pay5, rpow, select, cmpf, broadcast, exp2, Scalar.ofBits, Ideal.ofBits_def, Ideal.cmpf_def,
      exp2_ideal]
  rw [hk, hr, kernel_exponent, reference_exponent]
  exact scale_eq _ _

/-- The kernel's inverse scales, in a column. -/
def kinv : FVec Ideal S8x1 .f32 :=
  bitcastToFloat .f32 (select (k0_pay9 x) (broadcast S8x1 0#32) (shli (k0_pay10 x) (broadcast S8x1 23#32)))

/-- The reference's inverse scales, in a column. -/
def rinv : FVec Ideal S8x1 .f32 :=
  select (Cert.ReferenceIdeal.Gen.k0_pay7 x) (broadcast S8x1 (Scalar.ofBits .f32 0x7F800000#32))
    (select (Cert.ReferenceIdeal.Gen.k0_pay8 x) (broadcast S8x1 (Scalar.ofBits .f32 0x00000000#32)) (Cert.ReferenceIdeal.Gen.k0_pay9 x))

/-- The inverse scales agree. -/
theorem inverses_eq : kinv x = rinv x := by
  funext i
  obtain ⟨r, rfl⟩ := eq_column i
  have hk : kinv x (ix2 r 0) = kpow (IntOp.subi 0#32 (k0_pay7 x (ix2 r 0))) := by
    simp only [kinv, k0_pay9, k0_pay10, k0_pay8, kpow, select, cmpi, addi, subi, shli, broadcast, bitcastToFloat, Ideal.ofBits_def]
  have hr : rinv x (ix2 r 0) = rpow (Ideal.ofBits .f32 0x00000000#32 - Cert.ReferenceIdeal.Gen.k0_pay4 x (ix2 r 0)) := by
    simp only [rinv, Cert.ReferenceIdeal.Gen.k0_pay6, Cert.ReferenceIdeal.Gen.k0_pay7, Cert.ReferenceIdeal.Gen.k0_pay8,
      Cert.ReferenceIdeal.Gen.k0_pay9, rpow, select, cmpf, broadcast, subf, exp2, Scalar.ofBits, Ideal.ofBits_def, Ideal.cmpf_def,
      exp2_ideal, Ideal.subf_def]
  rw [hk, hr, kernel_exponent, reference_exponent]
  exact inverse_eq _ _

/-- The codes the inverse scales `v` give: the rows multiplied by them, cut off at 448 either way. -/
def codesBy (v : FVec Ideal S8x1 .f32) : FVec Ideal S8x5120 .fp8e4m3 :=
  truncf .fp8e4m3 (minimumf (broadcast S8x5120 (Scalar.ofBits .f32 0x43E00000#32)) (maximumf (broadcast S8x5120 (Scalar.ofBits .f32 0xC3E00000#32))
    (mulf (k0_pay6 x) (broadcastTo S8x5120 v broadcasts_S8x1_S8x5120)))) bitsLt_fp8e4m3_f32

/-- The codes agree. -/
theorem codes_eq : Cert.KernelIdeal.Run.codesOf x = Cert.ReferenceIdeal.Run.codesOf x := by
  have hk : Cert.KernelIdeal.Run.codesOf x = codesBy x (kinv x) := by
    simp only [Cert.KernelIdeal.Run.codesOf, k0_pay1, codesBy, kinv]
  have hr : Cert.ReferenceIdeal.Run.codesOf x = codesBy x (rinv x) := by
    simp only [Cert.ReferenceIdeal.Run.codesOf, Cert.ReferenceIdeal.Gen.k0_pay1, codesBy, rinv, rows_eq]
  rw [hk, hr, inverses_eq]

end Cert.Payloads
-- ==== Proof.KernelIdealValue.lean ====
/- What the kernel's three result arrays hold after the run: each is written back once, whole, at the last point. -/
module

public import proofs.«01_k».proof.Proof.KernelIdealRun
public import Idealize.ShloMosaic.Lib.Pipeline.ValueKit

@[expose] public section

set_option maxRecDepth 16384

noncomputable section

namespace Cert.KernelIdeal.Run

open Idealize.ShloMosaic Idealize.ShloMosaic.TcCoe Idealize.SL.Sem
open Cert.KernelIdeal.Gen

variable {F : FTy → Type} [FloatOps F]
variable (m : (ℓ : Loc nD τ sig) → Buf (Elt F) ℓ) (ρ : Dev nD → PrngReg)

/-- The last point. -/
abbrev pl : Fin cfg0.N := ⟨19, by have : cfg0.N = 20 := N_0; omega⟩

/-- The first result array ends at the last accumulator scaled by the rows' and the columns' scales, -/
theorem final3 (c : Dev nD) : (dats m 0 c).arrAt 3 cfg0.N = k0_pay5 (accAt m c 19 pl.isLt) (scales m c) (iblk m c 2 pl) :=
  (dats m 0 c).arrAt_eq_of_after_last 3 pl (by decide +kernel) _ (fun j => by rw [after3]; rfl)

/-- the second at the codes, -/
theorem final4 (c : Dev nD) : (dats m 0 c).arrAt 4 cfg0.N = codes m c :=
  (dats m 0 c).arrAt_eq_of_after_last 4 pl (by decide +kernel) _ (fun j => by rw [after4]; rfl)

/-- and the third at the scales. -/
theorem final5 (c : Dev nD) : (dats m 0 c).arrAt 5 cfg0.N = scales m c :=
  (dats m 0 c).arrAt_eq_of_after_last 5 pl (by decide +kernel) _ (fun j => by rw [after5]; rfl)

/-- The rows' block is the whole array at every point. -/
theorem blk0 (c : Dev nD) (t : Fin cfg0.N) : iblk m c 0 t = V m c main_v0 := by
  funext y
  have e : ∀ t : Fin cfg0.N, win0_0.index t = ![0, 0] := (by decide +kernel : ∀ t : Fin grid0.N, _)
  blk_simp [iblk]
  refine congrArg (V m c main_v0) ?_
  blk_ext [e]

/-- The columns' scales' block is the whole array at every point. -/
theorem blk2 (c : Dev nD) (t : Fin cfg0.N) : iblk m c 2 t = V m c main_v1 := by
  funext y
  have e : ∀ t : Fin cfg0.N, win0_2.index t = ![0, 0] := (by decide +kernel : ∀ t : Fin grid0.N, _)
  blk_simp [iblk]
  refine congrArg (V m c main_v1) ?_
  blk_ext [e]

/-- The weights' block at point `t` is 256 rows of the array, from row `256 t`. -/
theorem blk1 (c : Dev nD) (t : Fin cfg0.N) (y : S256x6912.Idx) (k : S5120x6912.Idx)
    (h0 : (k 0).val = t.val * 256 + (y 0).val) (h1 : (k 1).val = (y 1).val) : iblk m c 1 t y = V m c main_arg1 k := by
  have e : ∀ t : Fin cfg0.N, win0_1.index t = ![t.val, 0] := (by decide +kernel : ∀ t : Fin grid0.N, _)
  blk_simp [iblk]
  refine congrArg (V m c main_arg1) ?_
  blk_ext [e, h0, h1]

/-- The run with the result arrays at what they end holding and the arguments unchanged. -/
theorem run_value : θ_run defs (onTc (τ := τ) (main (F := F))) ⟨m, fun _ => 0, ρ⟩ (fun r => ∀ c : Dev nD,
      r.2.mem ((c.tc : Thread nD τ).loc main_v2_0) = k0_pay5 (accAt m c 19 pl.isLt) (scales m c) (iblk m c 2 pl)
      ∧ r.2.mem ((c.tc : Thread nD τ).loc main_v2_1) = codes m c
      ∧ r.2.mem ((c.tc : Thread nD τ).loc main_v2_2) = scales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.2.1 c).1 3 |>.trans (final3 m c), (h.2.1 c).1 4 |>.trans (final4 m c),
      (h.2.1 c).1 5 |>.trans (final5 m c), h.1.1 c⟩) (θ_run_and (frame m ρ) (run_main m ρ))

end Cert.KernelIdeal.Run

end
-- ==== Proof.Product.lean ====
/- The kernel's accumulator after its last point is the reference's one product, at the ideal instance: the sum over 20 blocks of
   256 columns is the sum over all 5120. -/
module

public import proofs.«01_k».proof.Proof.Payloads
public import proofs.«01_k».proof.Proof.KernelIdealValue
public import Idealize.ShloMosaic.Lib.MatmulPlain

@[expose] public section

set_option maxRecDepth 16384

noncomputable section

namespace Cert.Product

open Idealize.ShloMosaic hiding ix2 eq_ix2 ix1
open Idealize.ShloMosaic.ValueIdx
open Cert.KernelIdeal Cert.KernelIdeal.Gen Cert.KernelIdeal.Run

/-- The dimension numbers of one block's product, -/
abbrev dk : DotDims S8x256 S256x6912 S8x6912 := dot_S8x256_S256x6912_S8x6912_1_0_0_1_n_n
/-- and of the reference's product. -/
abbrev dr : DotDims S8x5120 S5120x6912 S8x6912 := Cert.ReferenceIdeal.dot_S8x5120_S5120x6912_S8x6912_1_0_0_1_n_n

/-- A product from a zero accumulator, at an index, is the sum over the contracted columns. -/
theorem product_apply {K : ℕ} (X : FVec Ideal ⟨2, ![8, K]⟩ .fp8e4m3) (Y : FVec Ideal ⟨2, ![K, 6912]⟩ .fp8e4m3) (a : Fin 8) (b : Fin 6912) :
    matmul (F := Ideal) (DotDims.plain 8 K 6912) none X Y (constant ⟨2, ![8, 6912]⟩ .f32 0x00000000#32) (ix2 a b)
      = ∑ k : Fin K, X (ix2 a k) * Y (ix2 k b) := by
  refine (Ideal.matmul_plain_apply none X Y _ a b).trans ?_
  rw [constant_apply, Cert.Exponent.bits_zero, zero_add]

/-- The block product's dimension numbers are a plain product's, -/
theorem dk_eq : dk = DotDims.plain 8 256 6912 := rfl
/-- and so are the reference's. -/
theorem dr_eq : dr = DotDims.plain 8 5120 6912 := rfl

/-- Column `k`'s term of the product at row `a` and column `b`, zero past the last. -/
def term (q : FVec Ideal S8x5120 .fp8e4m3) (w : FVec Ideal S5120x6912 .fp8e4m3) (a : Fin 8) (b : Fin 6912) (k : ℕ) : EReal :=
  if h : k < 5120 then q (ix2 a ⟨k, h⟩) * w (ix2 ⟨k, h⟩ b) else 0

/-- A point adds its block's product to the accumulator. -/
theorem step_apply (i : grid0.Coords) (q : Vec Ideal S8x5120 .fp8e4m3) (w : Vec Ideal S256x6912 .fp8e4m3) (acc : Vec Ideal S8x6912 .f32)
    (a : Fin 8) (b : Fin 6912) :
    stepOf i q w acc (ix2 a b) = acc (ix2 a b) + ∑ k : Fin 256, codesAt i q (ix2 a k) * w (ix2 k b) := by
  rw [← product_apply, ← dk_eq]
  simp only [stepOf, k0_pay4, shapeCast_self, addf, Ideal.addf_def]

/-- The block of codes at point `t` is 256 columns of them, from column `256 t`. -/
theorem codesAt_apply (t : Fin cfg0.N) (q : Vec Ideal S8x5120 .fp8e4m3) (a : Fin 8) (k : Fin 256) (h : t.val * 256 + k.val < 5120) :
    codesAt (grid0.coords t) q (ix2 a k) = q (ix2 a ⟨t.val * 256 + k.val, h⟩) := by
  have e : ∀ t : Fin grid0.N, k0_off1 (grid0.coords t) = ![0, 256 * t.val] := by decide +kernel
  refine View.ld_unit_apply_of q _ _ _ _ _ fun i => ?_
  have ei := congrFun (e t) i
  fin_cases i
  · refine Eq.trans ?_ (congrArg (· + a.val) ei.symm)
    exact (Nat.zero_add _).symm
  · refine Eq.trans ?_ (congrArg (· + k.val) ei.symm)
    show t.val * 256 + k.val = 256 * t.val + k.val
    omega

variable (m : (ℓ : Loc nD τ sig) → Buf (Elt Ideal) ℓ)

/-- One point's block of products, as terms of the whole product. -/
theorem block_terms (c : Dev nD) (t : Fin cfg0.N) (a : Fin 8) (b : Fin 6912) :
    ∑ k : Fin 256, codesAt (grid0.coords t) (codes m c) (ix2 a k) * iblk m c 1 t (ix2 k b)
      = ∑ k ∈ Finset.range 256, term (codes m c) (V m c main_arg1) a b (t.val * 256 + k) := by
  have ht : t.val < 20 := lt_of_lt_of_eq t.isLt N_0
  rw [Finset.sum_range]
  refine Finset.sum_congr rfl fun k _ => ?_
  have h : t.val * 256 + k.val < 5120 := by have := k.isLt; omega
  rw [term, dif_pos h, codesAt_apply t _ a k h, blk1 m c t (ix2 k b) (ix2 ⟨t.val * 256 + k.val, h⟩ b) rfl rfl]

/-- The accumulator after point `n` is the sum over the columns of the first `n + 1` blocks. -/
theorem acc_apply (c : Dev nD) (n : ℕ) (h : n < cfg0.N) (a : Fin 8) (b : Fin 6912) :
    accAt m c n h (ix2 a b) = ∑ k ∈ Finset.range ((n + 1) * 256), term (codes m c) (V m c main_arg1) a b k := by
  induction n with
  | zero =>
    have z : (k0_pay3 (F := Ideal)) (ix2 a b) = 0 := by
      simp only [k0_pay3, shapeCast_self]
      exact Cert.Exponent.bits_zero
    rw [accAt, step_apply, z, zero_add, block_terms]
    simp only [Nat.zero_mul, Nat.zero_add, Nat.one_mul]
  | succ n ih => rw [accAt, step_apply, ih, block_terms, Nat.succ_mul (n + 1), Finset.sum_range_add]

/-- The last accumulator is the reference's product of the codes and the weights. -/
theorem acc_last (c : Dev nD) :
    accAt m c 19 pl.isLt = matmul (F := Ideal) (φ₁ := .fp8e4m3) (φ₂ := .fp8e4m3) dr none (codes m c) (V m c main_arg1) (constant S8x6912 .f32 0x00000000#32) := by
  funext j
  rw [eq_ix2 j]
  refine (acc_apply m c 19 pl.isLt (j 0) (j 1)).trans ((Finset.sum_range _).trans (Eq.trans ?_ (product_apply (codes m c) (V m c main_arg1) (j 0) (j 1)).symm))
  refine Finset.sum_congr rfl fun k _ => ?_
  exact dif_pos k.isLt

/-- The kernel's three results are the reference's of the same arguments. -/
theorem results_eq (c : Dev nD) :
    k0_pay5 (accAt m c 19 pl.isLt) (scales m c) (iblk m c 2 pl)
        = Cert.ReferenceIdeal.Run.resultOf (V m c main_v0) (V m c main_arg1) (V m c main_v1)
      ∧ codes m c = Cert.ReferenceIdeal.Run.codesOf (V m c main_v0)
      ∧ scales m c = Cert.ReferenceIdeal.Gen.k0_pay5 (V m c main_v0) := by
  have hq : codes m c = Cert.ReferenceIdeal.Run.codesOf (V m c main_v0) := by
    rw [codes, blk0, Cert.Payloads.codes_eq]
  have hs : scales m c = Cert.ReferenceIdeal.Gen.k0_pay5 (V m c main_v0) := by
    rw [scales, blk0, Cert.Payloads.scales_eq]
  refine ⟨?_, hq, hs⟩
  rw [acc_last, hq, hs, blk2]
  simp only [k0_pay5, Cert.ReferenceIdeal.Run.resultOf, Cert.ReferenceIdeal.Gen.k0_pay2, Cert.ReferenceIdeal.Run.codesOf, shapeCast_self]

end Cert.Product

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.Product
public import Idealize.ShloMosaic.Adequacy
public import Idealize.ShloMosaic.Init

@[expose] public section

noncomputable section

namespace Cert.Proof

open Idealize.ShloMosaic Idealize.SL.Sem Cert.Kernel

/-- The reference's host operations give its region the arrays the kernel's host operations give the kernel's region, where the
    arguments agree. -/
theorem inputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Gen.V m' c Cert.ReferenceIdeal.main_v0 = Cert.KernelIdeal.Gen.V m c Cert.KernelIdeal.main_v0
      ∧ Cert.ReferenceIdeal.Gen.V m' c Cert.ReferenceIdeal.main_arg1 = Cert.KernelIdeal.Gen.V m c Cert.KernelIdeal.main_arg1
      ∧ Cert.ReferenceIdeal.Gen.V m' c Cert.ReferenceIdeal.main_v1 = Cert.KernelIdeal.Gen.V m c Cert.KernelIdeal.main_v1 := by
  refine ⟨?_, ?_, ?_⟩
  · have hk : Cert.KernelIdeal.Gen.V m c Cert.KernelIdeal.main_v0 = shapeCast Cert.KernelIdeal.S8x5120
        (m ((c.tc : Thread Cert.KernelIdeal.nD Cert.KernelIdeal.τ).loc Cert.KernelIdeal.main_arg0)) Cert.KernelIdeal.Gen.shapeCasts_S8x1x5120_S8x5120 := rfl
    have hr : Cert.ReferenceIdeal.Gen.V m' c Cert.ReferenceIdeal.main_v0 = shapeCast Cert.ReferenceIdeal.S8x5120
        (m' ((c.tc : Thread Cert.ReferenceIdeal.nD Cert.ReferenceIdeal.τ).loc Cert.ReferenceIdeal.main_arg0)) Cert.ReferenceIdeal.Gen.shapeCasts_S8x1x5120_S8x5120 := rfl
    rw [hk, hr, h0]
  · rw [Cert.KernelIdeal.Gen.V_main_arg1, Cert.ReferenceIdeal.Gen.V_main_arg1, h1]
  · have hk : Cert.KernelIdeal.Gen.V m c Cert.KernelIdeal.main_v1 = shapeCast Cert.KernelIdeal.S1x6912
        (m ((c.tc : Thread Cert.KernelIdeal.nD Cert.KernelIdeal.τ).loc Cert.KernelIdeal.main_arg2)) Cert.KernelIdeal.Gen.shapeCasts_S6912_S1x6912 := rfl
    have hr : Cert.ReferenceIdeal.Gen.V m' c Cert.ReferenceIdeal.main_v1 = shapeCast Cert.ReferenceIdeal.S1x6912
        (m' ((c.tc : Thread Cert.ReferenceIdeal.nD Cert.ReferenceIdeal.τ).loc Cert.ReferenceIdeal.main_arg2)) Cert.ReferenceIdeal.Gen.shapeCasts_S6912_S1x6912 := rfl
    rw [hk, hr, h2]

/-- Over the extended reals the kernel and the reference end with the same three results from the same arguments. -/
theorem algebraic : algebraic_KernelIdeal_ReferenceIdeal (hKernelIdeal := Cert.KernelIdeal.Gen.facts)
    (hReferenceIdeal := Cert.ReferenceIdeal.Gen.facts) := by
  intro m g m' g' _ hargs
  refine ⟨fun c => Cert.ReferenceIdeal.Run.resultOf (F := Ideal) (Cert.KernelIdeal.Gen.V m c Cert.KernelIdeal.main_v0)
      (Cert.KernelIdeal.Gen.V m c Cert.KernelIdeal.main_arg1) (Cert.KernelIdeal.Gen.V m c Cert.KernelIdeal.main_v1),
    fun c => Cert.ReferenceIdeal.Run.codesOf (F := Ideal) (Cert.KernelIdeal.Gen.V m c Cert.KernelIdeal.main_v0),
    fun c => Cert.ReferenceIdeal.Gen.k0_pay5 (F := Ideal) (Cert.KernelIdeal.Gen.V m c Cert.KernelIdeal.main_v0), ?_, ?_⟩
  · refine (θ_run _ _ _).mono (fun r h c => ?_) (Cert.KernelIdeal.Run.run_value (F := Ideal) m g)
    obtain ⟨e0, e1, e2⟩ := Cert.Product.results_eq m c
    obtain ⟨r0, r1, r2, ra⟩ := h c
    exact ⟨r0.trans e0, r1.trans e1, r2.trans e2, ra⟩
  · refine (θ_run _ _ _).mono (fun r h c => ?_) (Cert.ReferenceIdeal.Run.run_value (F := Ideal) m' g')
    obtain ⟨h0, h1, h2⟩ := hargs c
    obtain ⟨i0, i1, i2⟩ := inputs_eq m m' c h0 h1 h2
    obtain ⟨r0, r1, r2, ra⟩ := h c
    rw [i0, i1, i2] at r0
    rw [i0] at r1 r2
    exact ⟨r0, r1, r2, ra⟩

/-- The certificate. -/
theorem claim : Cert.Claim := ⟨Cert.Kernel.Gen.facts, Cert.KernelIdeal.Gen.facts, Cert.ReferenceIdeal.Gen.facts,
  quiescent_kernel, fun m g _ => Cert.KernelIdeal.Run.frame (F := Ideal) m g, fun m g _ => Cert.ReferenceIdeal.Gen.frame (F := Ideal) m g,
  trivial, algebraic⟩

end Cert.Proof

end
